-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S_ : Shape := ⟨0, ![]⟩
abbrev S1 : Shape := ⟨1, ![1]⟩
abbrev S1024x2048 : Shape := ⟨2, ![1024, 2048]⟩

abbrev nBuf : Space → Nat
  | .hbm => 4
  | .vmem => 4
  | .smem => 1
  | _ => 0

abbrev bufTy : (tb : Table) → Fin (tcTables nBuf tb) → BufTy
  | .hbm, ⟨0, _⟩ => ⟨S16384x2048, .f32⟩
  | .hbm, ⟨1, _⟩ => ⟨S_, .f32⟩
  | .hbm, ⟨2, _⟩ => ⟨S1, .f32⟩
  | .hbm, ⟨3, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .smem, ⟨0, _⟩ => ⟨S1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x2048 : Shape := ⟨2, ![16384, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S_, .f32⟩
  | .hbm, ⟨2, _⟩ => ⟨S_, .f32⟩
  | .hbm, ⟨3, _⟩ => ⟨S16384x2048, .f32⟩
  | .hbm, ⟨4, _⟩ => ⟨S16384x2048, .i1⟩
  | .hbm, ⟨5, _⟩ => ⟨S16384x2048, .f32⟩
  | .hbm, ⟨6, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.Spec.lean ====
/- Hand-written, untrusted: THE MASKED OVERWRITE as one function of an array and a number, at any float values and any
   shape. Both programs are shown to compute it: Block.lean and Result.lean for the kernel, Host.lean for the reference. -/
module

public import Idealize.ShloMosaic.PureOps.Vector
public import Idealize.ShloMosaic.PureOps.Ideal

@[expose] public section

noncomputable section

namespace Cert.Proof

open Idealize.ShloMosaic

variable {F : FTy → Type} [FloatOps F]

/-- The masked overwrite of the array `x` by the number `v`: `v` where the entry of `x` compares greater than the literal
    with the word `0x3F000000` (one half), the entry of `x` elsewhere. -/
def overwrite {s : Shape} (x : Vec F s .f32) (v : Elt F .f32) : Vec F s .f32 := fun i =>
  Scalar.select (FloatOps.cmpf .ogt (x i) (FloatOps.ofBits .f32 0x3F000000#32)) v (x i)

/-- The literal's word is one half. -/
theorem half_eq : Ideal.ofBits .f32 0x3F000000#32 = (((1 : ℝ) / 2 : ℝ) : EReal) := by
  simp [Ideal.ofBits, Ideal.ieee, -EReal.coe_mul]
  norm_num

/-- Over the extended reals the overwrite is what it says: `v` where the entry exceeds one half, the entry elsewhere. -/
theorem overwrite_ideal {s : Shape} (x : Vec Ideal s .f32) (v : EReal) (i : s.Idx) :
    overwrite (F := Ideal) x v i = if (((1 : ℝ) / 2 : ℝ) : EReal) < (x i : EReal) then v else x i := by
  show Scalar.select (Ideal.cmp .ogt (x i : EReal) (Ideal.ofBits .f32 0x3F000000#32)) v (x i : EReal) = _
  rw [half_eq]
  unfold Scalar.select Ideal.cmp
  by_cases h : (((1 : ℝ) / 2 : ℝ) : EReal) < (x i : EReal)
  · rw [if_pos h, decide_eq_true h]; rfl
  · rw [if_neg h, decide_eq_false h]; rfl

end Cert.Proof

end
-- ==== Proof.Block.lean ====
/- Hand-written, untrusted: WHAT ONE GRID POINT WRITES. The body's run leaves one piece in the output's staging buffer, a
   store through the whole block; its payload is the masked overwrite of the input block by the word in scalar memory
   (`out_eq`). The word is the number argument at every point (`word_eq`), and the input block of point `t` is rows
   1024 t … 1024 t + 1023 of the array argument (`rows_eq`). -/
module

public import proofs.«01_k».proof.Proof.Gen.KernelIdeal.Value
public import proofs.«01_k».proof.Proof.Spec

@[expose] public section

noncomputable section

namespace Cert.Proof.Block

open Cert.KernelIdeal Cert.KernelIdeal.Gen Cert.KernelIdeal.Value Idealize.ShloMosaic Idealize.ShloMosaic.TcCoe

variable {F : FTy → Type} [FloatOps F]

/-- The one index of the array of one word. -/
abbrev only : S1.Idx := fun a => match a with | ⟨0, _⟩ => (0 : Fin 1)

/-- An index of the array of one word is that one. -/
theorem eq_only (i : S1.Idx) : i = only := by
  funext a
  match a with
  | ⟨0, _⟩ => exact Subsingleton.elim (α := Fin 1) _ _

theorem origin : (![0, 0] : Fin 2 → Nat) = fun _ => 0 := funext fun a => by fin_cases a <;> rfl

/-- The stored payload is the masked overwrite of the loaded block by the loaded word. -/
theorem payload_eq (x : Vec F S1024x2048 .f32) (v : Elt F .f32) : k0_pay1 x v = overwrite x v := rfl

/-- What the body leaves in the output's staging buffer, on any whole staging buffers: the masked overwrite of the second
    input's contents by the first input's one word. -/
theorem out_eq (c : Dev nD) (i : grid0.Coords) (a1 : Memref sig .tc .smem S1 .f32) (h1 : a1.IsWhole)
    (a2 : Memref sig .tc .vmem S1024x2048 .f32) (h2 : a2.IsWhole) (a3 : Memref sig .tc .vmem S1024x2048 .f32)
    (h3 : a3.IsWhole) (w : Vec F S1 .f32) (x : Vec F S1024x2048 .f32) :
    out0_A_2 c i a1 h1 a2 h2 a3 h3 w x = overwrite x (w only) := by
  unfold out0_A_2
  rw [View.read_writes_junk_eq_canon]
  show View.canon ([⟨Rect.unit ![0, 0] S1024x2048.size inb_S1024x2048_S1024x2048_0_0,
      k0_pay1
        (View.readAt (Elt F) a2.view (Rect.unit ![0, 0] S1024x2048.size inb_S1024x2048_S1024x2048_0_0).toLoadRect (h2.unread x))
        (View.readAt (Elt F) a1.view (Rect.unit (s := S1) ![0] S1.size inb_S1_S1_0).toLoadRect (h1.unread w) _)⟩] :
      List (View.Piece (Elt F) S1024x2048 .f32)) = _
  rw [View.canon_unit_zero origin, View.readAt_eq_ld, View.readAt_eq_ld, h2.read_unread, h1.read_unread,
    View.ld_unit_zero origin, payload_eq]
  exact congrArg (fun j => overwrite x (w j)) (eq_only _)

variable (m : (ℓ : Loc nD τ sig) → Buf (Elt F) ℓ)

/-- The one index of an array of rank zero, the number argument's. -/
abbrev point : S_.Idx := fun a => a.elim0

/-- At the region's entry the array of one word holds the number argument, which the host's reshape put there. -/
theorem entry_word (c : Dev nD) (i : S1.Idx) : V m c main_v0 i = m ((c : Thread nD τ).loc main_arg1) point := by
  have e : V m c main_v0 = shapeCast S1 (m ((c : Thread nD τ).loc main_arg1)) shapeCasts_S_S1 := by
    show StableHlo.after hostOps0 _ _ = _
    simp only [hostOps0]
    after_results
    rfl
  rw [congrFun e i]
  exact congrArg (m ((c : Thread nD τ).loc main_arg1)) (funext fun a => a.elim0)

/-- At every grid point the block in scalar memory is the number argument. -/
theorem word_eq (c : Dev nD) (t : Fin cfg0.N) (i : S1.Idx) :
    iblk m c 0 t i = m ((c : Thread nD τ).loc main_arg1) point :=
  entry_word m c (((cfg0.win 0).blk t).view.emb i)

/-- The input's and the output's block at point `t` start at the same row, `1024 t`, and at column zero. -/
theorem start : ∀ t : Fin cfg0.N, win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The place in the whole array of an entry of the output's block at point `t`: the row moves by `1024 t`. -/
theorem place_val (t : Fin cfg0.N) (j : S1024x2048.Idx) :
    (((cfg0.win 2).blk t).view.emb j (0 : Fin 2)).val = t.val * 1024 + (j 0).val
      ∧ (((cfg0.win 2).blk t).view.emb j (1 : Fin 2)).val = (j 1).val := by
  obtain ⟨-, -, r, k⟩ := start t
  constructor
  · show win0_2.index t (0 : Fin 2) * 1024 + 1 * (j 0).val = _
    omega
  · show win0_2.index t (1 : Fin 2) * 2048 + 1 * (j 1).val = _
    omega

/-- The input's block at point `t` sits at the same place as the output's. -/
theorem place_eq (t : Fin cfg0.N) (j : S1024x2048.Idx) :
    ((cfg0.win 1).blk t).view.emb j = ((cfg0.win 2).blk t).view.emb j := by
  obtain ⟨r1, k1, -, -⟩ := start t
  obtain ⟨r2, k2⟩ := place_val t j
  funext a; apply Fin.ext
  match a with
  | ⟨0, _⟩ =>
    refine Eq.trans ?_ r2.symm
    show win0_1.index t (0 : Fin 2) * 1024 + 1 * (j 0).val = _
    omega
  | ⟨1, _⟩ =>
    refine Eq.trans ?_ k2.symm
    show win0_1.index t (1 : Fin 2) * 2048 + 1 * (j 1).val = _
    omega

/-- So the input block of point `t` is the array argument read at the output block's places. -/
theorem rows_eq (c : Dev nD) (t : Fin cfg0.N) :
    iblk m c 1 t = fun j : S1024x2048.Idx =>
      (m ((c : Thread nD τ).loc main_arg0) : Vec F S16384x2048 .f32) (((cfg0.win 2).blk t).view.emb j) := by
  funext j
  show V m c main_arg0 (((cfg0.win 1).blk t).view.emb j) = _
  rw [place_eq, V_main_arg0]

end Cert.Proof.Block

end
-- ==== Proof.Result.lean ====
/- Hand-written, untrusted: WHAT THE KERNEL'S RESULT ARRAY HOLDS. Each grid point writes back its block of the masked
   overwrite of the whole array (`flushed_eq`), the sixteen blocks of 1024 rows cover the array (`covered`), so the array
   after the run is that overwrite (`final`, `run`). -/
module

public import proofs.«01_k».proof.Proof.Block

@[expose] public section

noncomputable section

namespace Cert.Proof.Result

open Cert.KernelIdeal Cert.KernelIdeal.Gen Cert.KernelIdeal.Value Cert.Proof.Block
open Idealize.ShloMosaic Idealize.ShloMosaic.TcCoe Idealize.SL.Sem

variable {F : FTy → Type} [FloatOps F]
variable (m : (ℓ : Loc nD τ sig) → Buf (Elt F) ℓ) (ρ : Dev nD → PrngReg)

/-- The masked overwrite of device `c`'s array argument by its number argument. -/
abbrev overwritten (c : Dev nD) : Vec F S16384x2048 .f32 :=
  overwrite (m ((c : Thread nD τ).loc main_arg0)) (m ((c : Thread nD τ).loc main_arg1) point)

/-- What point `t` writes back is its block of the masked overwrite of the whole array. -/
theorem flushed_eq (c : Dev nD) (t : Fin cfg0.N) :
    (dats m 0 c).flushed 2 t = ((cfg0.win 2).blk t).view.read (Elt F) (overwritten m c) := by
  rw [flushed2_A, out_eq, word_eq, rows_eq]
  rfl

/-- Every index of the result array lies in the block of the point that its row, divided by 1024, names. -/
theorem covered (i : S16384x2048.Idx) :
    ∃ t : Fin cfg0.N, (cfg0.win 2).flush t = true ∧ i ∈ ((cfg0.win 2).blk t).view.set := by
  have r : (i 0).val < 16384 := (i 0).isLt
  have hN : cfg0.N = 16 := N_0
  let t : Fin cfg0.N := ⟨(i 0).val / 1024, by omega⟩
  let j : S1024x2048.Idx := fun a => match a with
    | ⟨0, _⟩ => (⟨(i 0).val % 1024, Nat.mod_lt _ (by decide)⟩ : Fin 1024)
    | ⟨1, _⟩ => (⟨(i 1).val, (i 1).isLt⟩ : Fin 2048)
  refine ⟨t, flush0_2 t, ?_⟩
  obtain ⟨e0, e1⟩ := place_val t j
  have e : ((cfg0.win 2).blk t).view.emb j = i := by
    funext a; apply Fin.ext
    match a with
    | ⟨0, _⟩ => exact e0.trans (Nat.div_add_mod' _ _)
    | ⟨1, _⟩ => exact e1
  rw [← e]
  exact ((cfg0.win 2).blk t).view.emb_mem_set j

/-- The result array after the run is the masked overwrite of the whole array. -/
theorem final (c : Dev nD) : (dats m 0 c).arrAt 2 cfg0.N = overwritten m c :=
  (dats m 0 c).arrAt_eq_of_cover 2 (overwritten m c) (fun t _ => flushed_eq m c t) covered

/-- The kernel's run: the result array ends at the masked overwrite, the arguments as launched. -/
theorem run : θ_run defs (onTc (τ := τ) (main (F := F))) ⟨m, fun _ => 0, ρ⟩ fun r => ∀ c : Dev nD,
      r.2.mem ((c : Thread nD τ).loc main_v1) = overwritten m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Proof.Result

end
-- ==== Proof.Host.lean ====
/- Hand-written, untrusted: WHAT THE REFERENCE COMPUTES. Its five host operations compose to the masked overwrite of the
   array argument by the number argument (`run`). -/
module

public import proofs.«01_k».proof.Proof.Gen.ReferenceIdeal.Run
public import proofs.«01_k».proof.Proof.Spec

@[expose] public section

noncomputable section

namespace Cert.Proof.Host

open Cert.ReferenceIdeal Cert.ReferenceIdeal.Gen Idealize.ShloMosaic Idealize.ShloMosaic.TcCoe Idealize.SL.Sem

variable {F : FTy → Type} [FloatOps F]

/-- The reference's composed operations — compare with the spread literal, spread the number, select — are the masked
    overwrite. -/
theorem composed_eq (x : Vec F S16384x2048 .f32) (v : Vec F S_ .f32) (k : S_.Idx) :
    select (cmpf .ogt x (broadcastInDim S16384x2048 ![] bcast_S_S16384x2048 (constant S_ .f32 0x3F000000#32)))
        (broadcastInDim S16384x2048 ![] bcast_S_S16384x2048 v) x
      = overwrite x (v k) := by
  funext i
  show Scalar.select _ (broadcastInDim S16384x2048 ![] bcast_S_S16384x2048 v i) (x i) = Scalar.select _ (v k) (x i)
  rw [show broadcastInDim S16384x2048 ![] bcast_S_S16384x2048 v i = v k from congrArg v (funext fun a => a.elim0)]
  rfl

variable (m : (ℓ : Loc nD τ sig) → Buf (Elt F) ℓ) (ρ : Dev nD → PrngReg)

/-- The reference's run: the result array ends at the masked overwrite, the arguments as launched. -/
theorem run (k : S_.Idx) : θ_run defs (onTc (τ := τ) (main (F := F))) ⟨m, fun _ => 0, ρ⟩ fun r => ∀ c : Dev nD,
      r.2.mem ((c.tc : Thread nD τ).loc main_v2)
        = overwrite (s := S16384x2048) (m ((c.tc : Thread nD τ).loc main_arg0)) (m ((c.tc : Thread nD τ).loc main_arg1) k)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (composed_eq _ _ k), (h c).2⟩)
    (Cert.ReferenceIdeal.Value.run m ρ)

end Cert.Proof.Host

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Result
public import proofs.«01_k».proof.Proof.Host
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel, at words: it terminates, its arguments end unchanged, every semaphore counter at zero. -/
theorem frame_kernel : Cert.quiescent_Kernel := fun m ρ _ => Cert.Kernel.Gen.frame m ρ

/-- The same of the ideal program. -/
theorem frame_ideal : Cert.quiescent_KernelIdeal := fun m ρ _ => Cert.KernelIdeal.Gen.frame m ρ

/-- The same of the reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals, from arguments that agree, kernel and reference end with the same result: the masked overwrite
    of the array by the number. -/
theorem same_result : Cert.algebraic_KernelIdeal_ReferenceIdeal := by
  intro m ρ m' ρ' _ agree
  refine ⟨fun c => Result.overwritten m c, Result.run (F := Ideal) m ρ, ?_⟩
  refine (θ_run Cert.ReferenceIdeal.defs _ _).mono (fun _ h c => ⟨(h c).1.trans ?_, (h c).2⟩)
    (Host.run (F := Ideal) m' ρ' Block.point)
  rw [(agree c).1, (agree c).2]

/-- The certificate's claims together, under the generated side conditions. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
